-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_a_million [hPre_within_a_million : Cert.Pre_within_a_million.Facts] (m : (ℓ : Loc Cert.KernelIdeal.nD Cert.KernelIdeal.τ Cert.KernelIdeal.sig) → Buf (Elt Ideal) ℓ) : Prop :=
  ∀ c : Dev Cert.KernelIdeal.nD,
    (Cert.Pre_within_a_million.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_a_million [hPre_within_a_million : Cert.Pre_within_a_million.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_a_million.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_a_million [hKernelIdeal : Cert.KernelIdeal.Facts] [hPre_within_a_million : Cert.Pre_within_a_million.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_a_million m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_a_million [hReferenceIdeal : Cert.ReferenceIdeal.Facts] [hPre_within_a_million : Cert.Pre_within_a_million.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_a_million m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_within_a_million [hKernelIdeal : Cert.KernelIdeal.Facts] [hReferenceIdeal : Cert.ReferenceIdeal.Facts] [hPre_within_a_million : Cert.Pre_within_a_million.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_a_million m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_within_a_million : Cert.Pre_within_a_million.Facts),
    quiescent_Kernel (hKernel := hKernel)
    ∧ quiescent_KernelIdeal (hKernelIdeal := hKernelIdeal)
    ∧ quiescent_KernelIdeal_pre_within_a_million (hKernelIdeal := hKernelIdeal) (hPre_within_a_million := hPre_within_a_million)
    ∧ quiescent_ReferenceIdeal (hReferenceIdeal := hReferenceIdeal)
    ∧ quiescent_ReferenceIdeal_pre_within_a_million (hReferenceIdeal := hReferenceIdeal) (hPre_within_a_million := hPre_within_a_million)
    ∧ preserves_Kernel_KernelIdeal
    ∧ algebraic_KernelIdeal_ReferenceIdeal_pre_within_a_million (hKernelIdeal := hKernelIdeal) (hReferenceIdeal := hReferenceIdeal) (hPre_within_a_million := hPre_within_a_million)
-- ==== Pre_within_a_million.lean ====
abbrev S5000x3 : Shape := ⟨2, ![5000, 3]⟩
abbrev S_ : Shape := ⟨0, ![]⟩

class Facts : Prop where
  bcast_S_S5000x3 : S_.BroadcastsInDim S5000x3 (![] : Fin 0 → Fin S5000x3.rank)
  reducesTo_S5000x3_S_d0_1 : S5000x3.ReducesTo [0, 1] S_
  h_S_ : 0 < S_.numel

variable [Facts]

def fn {F : FTy → Type} [FloatOps F] (main_arg0 : FVec F S5000x3 .f32) (main_arg1 : FVec F S5000x3 .f32) : IVec S_ 1 :=
  let main_v0 : FVec F S5000x3 .f32 := Host.absf main_arg0
  let main_cst : FVec F S_ .f32 := constant S_ .f32 0x497423F0#32
  let main_v1 : FVec F S5000x3 .f32 := broadcastInDim S5000x3 ![] bcast_S_S5000x3 main_cst
  let main_v2 : IVec S5000x3 1 := cmpf .ole main_v0 main_v1
  let main_c : IVec S_ 1 := constantI S_ 1 1#1
  let main_v3 : IVec S_ 1 := (fun x v => Host.reduce IntOp.andi x v reducesTo_S5000x3_S_d0_1 h_S_) main_v2 main_c
  let main_v4 : FVec F S5000x3 .f32 := Host.absf main_arg1
  let main_cst_0 : FVec F S_ .f32 := constant S_ .f32 0x497423F0#32
  let main_v5 : FVec F S5000x3 .f32 := broadcastInDim S5000x3 ![] bcast_S_S5000x3 main_cst_0
  let main_v6 : IVec S5000x3 1 := cmpf .ole main_v4 main_v5
  let main_c_1 : IVec S_ 1 := constantI S_ 1 1#1
  let main_v7 : IVec S_ 1 := (fun x v => Host.reduce IntOp.andi x v reducesTo_S5000x3_S_d0_1 h_S_) main_v6 main_c_1
  let main_v8 : IVec S_ 1 := andi main_v3 main_v7
  main_v8
-- ==== Kernel.lean ====
abbrev S5000x3 : Shape := ⟨2, ![5000, 3]⟩
abbrev S_ : Shape := ⟨0, ![]⟩
abbrev S120x3 : Shape := ⟨2, ![120, 3]⟩
abbrev S5120x3 : Shape := ⟨2, ![5120, 3]⟩
abbrev S5120 : Shape := ⟨1, ![5120]⟩
abbrev S3x5120 : Shape := ⟨2, ![3, 5120]⟩
abbrev S5120x1 : Shape := ⟨2, ![5120, 1]⟩
abbrev S1x5120 : Shape := ⟨2, ![1, 5120]⟩
abbrev S3x1024 : Shape := ⟨2, ![3, 1024]⟩
abbrev S1x1024 : Shape := ⟨2, ![1, 1024]⟩
abbrev S5120x1024 : Shape := ⟨2, ![5120, 1024]⟩
abbrev S640x1024 : Shape := ⟨2, ![640, 1024]⟩
abbrev S8x1024 : Shape := ⟨2, ![8, 1024]⟩
abbrev S4x1024 : Shape := ⟨2, ![4, 1024]⟩
abbrev S2x1024 : Shape := ⟨2, ![2, 1024]⟩
abbrev S1x5000 : Shape := ⟨2, ![1, 5000]⟩
abbrev S5000x1 : Shape := ⟨2, ![5000, 1]⟩
abbrev S1x1500 : Shape := ⟨2, ![1, 1500]⟩
abbrev S500x1 : Shape := ⟨2, ![500, 1]⟩
abbrev S500x5000 : Shape := ⟨2, ![500, 5000]⟩
abbrev S500x1500 : Shape := ⟨2, ![500, 1500]⟩
abbrev S1500 : Shape := ⟨1, ![1500]⟩

abbrev nBuf : Space → Nat
  | .hbm => 25
  | .vmem => 17
  | .smem => 0
  | _ => 0

abbrev bufTy : (tb : Table) → Fin (tcTables nBuf tb) → BufTy
  | .hbm, ⟨0, _⟩ => ⟨S5000x3, .f32⟩
  | .hbm, ⟨1, _⟩ => ⟨S5000x3, .f32⟩
  | .hbm, ⟨2, _⟩ => ⟨S_, .f32⟩
  | .hbm, ⟨3, _⟩ => ⟨S120x3, .f32⟩
  | .hbm, ⟨4, _⟩ => ⟨S_, .f32⟩
  | .hbm, ⟨5, _⟩ => ⟨S120x3, .f32⟩
  | .hbm, ⟨6, _⟩ => ⟨S5120x3, .f32⟩
  | .hbm, ⟨7, _⟩ => ⟨S5120x3, .f32⟩
  | .hbm, ⟨8, _⟩ => ⟨S5120x3, .f32⟩
  | .hbm, ⟨9, _⟩ => ⟨S_, .f32⟩
  | .hbm, ⟨10, _⟩ => ⟨S5120, .f32⟩
  | .hbm, ⟨11, _⟩ => ⟨S5120x3, .f32⟩
  | .hbm, ⟨12, _⟩ => ⟨S_, .f32⟩
  | .hbm, ⟨13, _⟩ => ⟨S5120, .f32⟩
  | .hbm, ⟨14, _⟩ => ⟨S3x5120, .f32⟩
  | .hbm, ⟨15, _⟩ => ⟨S3x5120, .f32⟩
  | .hbm, ⟨16, _⟩ => ⟨S5120x1, .f32⟩
  | .hbm, ⟨17, _⟩ => ⟨S5120x1, .f32⟩
  | .hbm, ⟨18, _⟩ => ⟨S1x5120, .f32⟩
  | .hbm, ⟨19, _⟩ => ⟨S1x5120, .f32⟩
  | .hbm, ⟨20, _⟩ => ⟨S1x5120, .f32⟩
  | .hbm, ⟨21, _⟩ => ⟨S1x5000, .f32⟩
  | .hbm, ⟨22, _⟩ => ⟨S5000x1, .f32⟩
  | .hbm, ⟨23, _⟩ => ⟨S1x1500, .i32⟩
  | .hbm, ⟨24, _⟩ => ⟨S1500, .i32⟩
  | .local _ .vmem, ⟨0, _⟩ => ⟨S5120x3, .f32⟩
  | .local _ .vmem, ⟨1, _⟩ => ⟨S5120x3, .f32⟩
  | .local _ .vmem, ⟨2, _⟩ => ⟨S3x1024, .f32⟩
  | .local _ .vmem, ⟨3, _⟩ => ⟨S3x1024, .f32⟩
  | .local _ .vmem, ⟨4, _⟩ => ⟨S3x1024, .f32⟩
  | .local _ .vmem, ⟨5, _⟩ => ⟨S3x1024, .f32⟩
  | .local _ .vmem, ⟨6, _⟩ => ⟨S5120x1, .f32⟩
  | .local _ .vmem, ⟨7, _⟩ => ⟨S5120x1, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S5000x1, .f32⟩
  | .local _ .vmem, ⟨15, _⟩ => ⟨S1x5000, .f32⟩
  | .local _ .vmem, ⟨16, _⟩ => ⟨S1x1500, .i32⟩
  | _, _ => ⟨S5000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem1_0 : DmaSem sig := 15
abbrev cc1_sem2_0 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5120x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5120x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S5000x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x5000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1500 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S5000x3 : Shape := ⟨2, ![5000, 3]⟩
abbrev S_ : Shape := ⟨0, ![]⟩
abbrev S5000 : Shape := ⟨1, ![5000]⟩
abbrev S5000x1 : Shape := ⟨2, ![5000, 1]⟩
abbrev S1x5000 : Shape := ⟨2, ![1, 5000]⟩
abbrev S5000x5000 : Shape := ⟨2, ![5000, 5000]⟩
abbrev S3x5000 : Shape := ⟨2, ![3, 5000]⟩
abbrev S1500 : Shape := ⟨1, ![1500]⟩

abbrev nBuf : Space → Nat
  | .hbm => 54
  | .vmem => 0
  | .smem => 0
  | _ => 0

abbrev bufTy : (tb : Table) → Fin (tcTables nBuf tb) → BufTy
  | .hbm, ⟨0, _⟩ => ⟨S5000x3, .f32⟩
  | .hbm, ⟨1, _⟩ => ⟨S5000x3, .f32⟩
  | .hbm, ⟨2, _⟩ => ⟨S5000x3, .f32⟩
  | .hbm, ⟨3, _⟩ => ⟨S_, .f32⟩
  | .hbm, ⟨4, _⟩ => ⟨S5000, .f32⟩
  | .hbm, ⟨5, _⟩ => ⟨S5000x1, .f32⟩
  | .hbm, ⟨6, _⟩ => ⟨S1x5000, .f32⟩
  | .hbm, ⟨7, _⟩ => ⟨S5000x5000, .f32⟩
  | .hbm, ⟨8, _⟩ => ⟨S5000x5000, .f32⟩
  | .hbm, ⟨9, _⟩ => ⟨S5000x5000, .f32⟩
  | .hbm, ⟨10, _⟩ => ⟨S3x5000, .f32⟩
  | .hbm, ⟨11, _⟩ => ⟨S5000x5000, .f32⟩
  | .hbm, ⟨12, _⟩ => ⟨S_, .f32⟩
  | .hbm, ⟨13, _⟩ => ⟨S5000x5000, .f32⟩
  | .hbm, ⟨14, _⟩ => ⟨S5000x5000, .f32⟩
  | .hbm, ⟨15, _⟩ => ⟨S5000x5000, .f32⟩
  | .hbm, ⟨16, _⟩ => ⟨S_, .f32⟩
  | .hbm, ⟨17, _⟩ => ⟨S5000x5000, .f32⟩
  | .hbm, ⟨18, _⟩ => ⟨S5000x5000, .f32⟩
  | .hbm, ⟨19, _⟩ => ⟨S5000x5000, .f32⟩
  | .hbm, ⟨20, _⟩ => ⟨S5000x3, .f32⟩
  | .hbm, ⟨21, _⟩ => ⟨S_, .f32⟩
  | .hbm, ⟨22, _⟩ => ⟨S5000, .f32⟩
  | .hbm, ⟨23, _⟩ => ⟨S5000x1, .f32⟩
  | .hbm, ⟨24, _⟩ => ⟨S1x5000, .f32⟩
  | .hbm, ⟨25, _⟩ => ⟨S5000x5000, .f32⟩
  | .hbm, ⟨26, _⟩ => ⟨S5000x5000, .f32⟩
  | .hbm, ⟨27, _⟩ => ⟨S5000x5000, .f32⟩
  | .hbm, ⟨28, _⟩ => ⟨S3x5000, .f32⟩
  | .hbm, ⟨29, _⟩ => ⟨S5000x5000, .f32⟩
  | .hbm, ⟨30, _⟩ => ⟨S_, .f32⟩
  | .hbm, ⟨31, _⟩ => ⟨S5000x5000, .f32⟩
  | .hbm, ⟨32, _⟩ => ⟨S5000x5000, .f32⟩
  | .hbm, ⟨33, _⟩ => ⟨S5000x5000, .f32⟩
  | .hbm, ⟨34, _⟩ => ⟨S_, .f32⟩
  | .hbm, ⟨35, _⟩ => ⟨S5000x5000, .f32⟩
  | .hbm, ⟨36, _⟩ => ⟨S5000x5000, .f32⟩
  | .hbm, ⟨37, _⟩ => ⟨S5000x5000, .f32⟩
  | .hbm, ⟨38, _⟩ => ⟨S5000x5000, .f32⟩
  | .hbm, ⟨39, _⟩ => ⟨S5000x5000, .f32⟩
  | .hbm, ⟨40, _⟩ => ⟨S5000x5000, .f32⟩
  | .hbm, ⟨41, _⟩ => ⟨S_, .f32⟩
  | .hbm, ⟨42, _⟩ => ⟨S5000x5000, .f32⟩
  | .hbm, ⟨43, _⟩ => ⟨S5000x5000, .f32⟩
  | .hbm, ⟨44, _⟩ => ⟨S_, .f32⟩
  | .hbm, ⟨45, _⟩ => ⟨S5000x5000, .f32⟩
  | .hbm, ⟨46, _⟩ => ⟨S5000x5000, .f32⟩
  | .hbm, ⟨47, _⟩ => ⟨S_, .f32⟩
  | .hbm, ⟨48, _⟩ => ⟨S5000x5000, .f32⟩
  | .hbm, ⟨49, _⟩ => ⟨S5000x5000, .f32⟩
  | .hbm, ⟨50, _⟩ => ⟨S_, .f32⟩
  | .hbm, ⟨51, _⟩ => ⟨S5000, .f32⟩
  | .hbm, ⟨52, _⟩ => ⟨S1500, .f32⟩
  | .hbm, ⟨53, _⟩ => ⟨S1500, .i32⟩
  | _, _ => ⟨S5000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_values : Ref sig .tc := ⟨.hbm, 52, rfl⟩
abbrev main_indices : Ref sig .tc := ⟨.hbm, 53, rfl⟩

abbrev nD : Nat := 1
abbrev τ : Topo := Topo.v7x

variable {F : FTy → Type} [FloatOps F]
-- ==== Proof.Launch.lean ====
/- The run of the kernel program: what the result array holds when it ends. The set-up of the launch is that of the frame. -/
module

public import proofs.«01_k».proof.Proof.Gen.KernelIdeal.Frame

@[expose] public section

set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends, with the result array at the contents that the last boundary of the
    program gives it, the arguments as launched and every counter at zero. -/
theorem run : θ_run defs (onTc (τ := τ) (main (F := F))) ⟨m, fun _ => 0, ρ⟩ (fun r => (∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v18 (by decide)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.Proof.Launch
-- ==== Proof.Bounds.lean ====
/- What the precondition says of the arguments: every coordinate is a real number of magnitude at most 999999. -/
module

public import proofs.«01_k».proof.Pre_within_a_million
public import Idealize.ShloMosaic.Lib.Pointwise.Tactic
public import Idealize.ShloMosaic.Lib.ReduceAll
public import Idealize.ShloMosaic.PureOps.Ideal.Laws

@[expose] public section

set_option maxRecDepth 16384

noncomputable section

namespace Cert.Proof.Bounds

open Idealize.ShloMosaic Cert.Pre_within_a_million

/-- The shape relations that the precondition's operations take hold. -/
theorem facts : Cert.Pre_within_a_million.Facts where
  bcast_S_S5000x3 := by decide
  reducesTo_S5000x3_S_d0_1 := by decide
  h_S_ := by decide

/-- A value whose magnitude is at most the bound's word is a real number of magnitude at most 999999. -/
theorem real_of_le (a : EReal) (h : max a (-a) ≤ Ideal.ofBits .f32 0x497423F0#32) : ∃ x : ℝ, a = x ∧ |x| ≤ 999999 := by
  have e : Ideal.ofBits .f32 0x497423F0#32 = ((999999 : ℝ) : EReal) := by
    simp [Ideal.ofBits, Ideal.ieee]
    rw [← EReal.coe_mul]
    norm_num
  rw [e] at h
  have h1 := (le_max_left _ _).trans h
  have h2 := (le_max_right _ _).trans h
  induction a with
  | bot => simp at h2
  | top => simp at h1
  | coe x =>
    refine ⟨x, rfl, abs_le.mpr ⟨?_, EReal.coe_le_coe_iff.mp h1⟩⟩
    rw [← EReal.coe_neg] at h2
    have := EReal.coe_le_coe_iff.mp h2
    linarith

/-- Where the precondition holds every coordinate of both arguments is a real number of magnitude at most 999999. -/
theorem bounded [Facts] (x y : FVec Ideal ⟨2, ![5000, 3]⟩ .f32) (h : fn (F := Ideal) x y = fun _ => 1#1) :
    (∀ i, ∃ v : ℝ, x i = v ∧ |v| ≤ 999999) ∧ (∀ i, ∃ v : ℝ, y i = v ∧ |v| ≤ 999999) := by
  have h0 := congrFun h (fun a => a.elim0)
  unfold fn at h0
  obtain ⟨hx, hy⟩ := IntOp.andi_eq_one.mp h0
  haveI : Subsingleton S_.Idx := ⟨fun a b => funext fun i => i.elim0⟩
  have read : ∀ (z : FVec Ideal S5000x3 .f32) (i : S5000x3.Idx),
      cmpf .ole (Host.absf z) (broadcastInDim S5000x3 ![] Facts.bcast_S_S5000x3 (constant S_ .f32 0x497423F0#32)) i = 1#1 →
      max (z i) (-(z i)) ≤ Ideal.ofBits .f32 0x497423F0#32 := by
    intro z i hz
    have hz' : BitVec.ofBool (decide (max (z i) (-(z i)) ≤ Ideal.ofBits .f32 0x497423F0#32)) = 1#1 := hz
    by_contra hn
    rw [decide_eq_false hn] at hz'
    exact absurd hz' (by decide)
  exact ⟨fun i => real_of_le _ (read x i (Host.reduce_andi_all _ _ _ _ _ hx i)),
    fun i => real_of_le _ (read y i (Host.reduce_andi_all _ _ _ _ _ hy i))⟩

end Cert.Proof.Bounds
-- ==== Proof.BlockScore.lean ====
/- What the first kernel body computes for one pair of points, over the extended reals: from the two squared distances
   the score, which is 1 less the squared difference of the distances over the scale, and no less than 0. -/
module

public import proofs.«01_k».proof.Proof.Gen.KernelIdeal.Frame
public import Idealize.ShloMosaic.Lib.Pointwise.Tactic
public import Idealize.ShloMosaic.Lib.MatmulPlain
public import Idealize.ShloMosaic.PureOps.Ideal.Laws
public import Idealize.ShloMosaic.Lib.Pipeline.Value

@[expose] public section

set_option maxRecDepth 16384

noncomputable section

namespace Cert.Proof.Score

open Idealize.ShloMosaic Cert.KernelIdeal Cert.KernelIdeal.Gen

/-- The squared distance of two points `x` and `y` with squared norms `p` and `q`, no less than the least one. -/
def gap (x y : Fin 3 → EReal) (p q : EReal) : EReal :=
  max (p + q - Ideal.ofBits .f32 0x40000000#32 * ∑ k, x k * y k) (Ideal.ofBits .f32 0x2B8CBCCC#32)

/-- The distance as the kernel takes it from the squared distance: times its reciprocal square root. -/
def dist (a : EReal) : EReal := a * Ideal.rsqrt a

/-- The score of two squared distances. -/
def score (a b : EReal) : EReal :=
  max (Ideal.ofBits .f32 0x3F800000#32 - Ideal.div ((dist a - dist b) * (dist a - dist b)) (Ideal.ofBits .f32 0x3C23D70A#32))
    (Ideal.ofBits .f32 0x00000000#32)

/-- The squared distance of point `r` of the column and point `j` of the row. -/
theorem pay3_apply (x : Vec Ideal S5120x3 .f32) (y : Vec Ideal S3x1024 .f32) (p : Vec Ideal S5120x1 .f32) (q : Vec Ideal S1x1024 .f32)
    (r : Fin 5120) (j : Fin 1024) :
    k0_pay3 x y p q (ix2 r j) = gap (fun k => x (ix2 r k)) (fun k => y (ix2 k j)) (p (ix2 r 0)) (q (ix2 0 j)) := by
  unfold k0_pay3
  pointwise
  rw [shapeCast_self, shapeCast_self, shapeCast_self, shapeCast_self]
  unfold gap
  refine congrArg (fun z => max (p (ix2 r 0) + q (ix2 0 j) - Ideal.ofBits .f32 0x40000000#32 * z) (Ideal.ofBits .f32 0x2B8CBCCC#32)) ?_
  refine (Ideal.matmul_plain_apply (φ₁ := .f32) (φ₂ := .f32) none x y (constant S5120x1024 .f32 0#32) r j).trans ?_
  refine (congrArg (fun z : EReal => z + ∑ k : Fin 3, x (ix2 r k) * y (ix2 k j)) Ideal.ofBits_zero_f32).trans (zero_add _)

/-- The distance of point `r` of the column and point `j` of the row. -/
theorem pay2_apply (x : Vec Ideal S5120x3 .f32) (y : Vec Ideal S3x1024 .f32) (p : Vec Ideal S5120x1 .f32) (q : Vec Ideal S1x1024 .f32)
    (r : Fin 5120) (j : Fin 1024) :
    k0_pay2 x y p q (ix2 r j) = dist (k0_pay3 x y p q (ix2 r j)) := by
  rfl

/-- The body's score of point `r` of the column and point `j` of the row. -/
theorem pay49_apply (x0 x1 : Vec Ideal S5120x3 .f32) (x2 x3 : Vec Ideal S3x1024 .f32) (x4 x5 : Vec Ideal S5120x1 .f32)
    (x6 x7 : Vec Ideal S1x1024 .f32) (r : Fin 5120) (j : Fin 1024) :
    k0_pay49 x0 x1 x2 x3 x4 x5 x6 x7 (ix2 r j)
      = score (gap (fun k => x0 (ix2 r k)) (fun k => x2 (ix2 k j)) (x4 (ix2 r 0)) (x6 (ix2 0 j)))
          (gap (fun k => x1 (ix2 r k)) (fun k => x3 (ix2 k j)) (x5 (ix2 r 0)) (x7 (ix2 0 j))) := by
  have l0 : ∀ x : Vec Ideal S5120x3 .f32, View.ld x r0_0 = x := fun x => View.ld_unit_zero (by funext a; fin_cases a <;> rfl) _ x
  have l1 : ∀ x : Vec Ideal S3x1024 .f32, View.ld x r0_1 = x := fun x => View.ld_unit_zero (by funext a; fin_cases a <;> rfl) _ x
  have l2 : ∀ x : Vec Ideal S5120x1 .f32, View.ld x r0_2 = x := fun x => View.ld_unit_zero (by funext a; fin_cases a <;> rfl) _ x
  have l3 : ∀ x : Vec Ideal S1x1024 .f32, View.ld x r0_3 = x := fun x => View.ld_unit_zero (by funext a; fin_cases a <;> rfl) _ x
  rw [← pay3_apply, ← pay3_apply]
  unfold k0_pay49 k0_pay46 k0_pay47 k0_pay48
  rw [l0, l0, l1, l1, l2, l2, l3, l3]
  rfl

end Cert.Proof.Score
-- ==== Proof.Chunks.lean ====
/- What the first kernel body adds up: a block of 5120 rows is cut into eight pieces of 640 rows, a piece
   is added up eight rows at a time, the eight rows that are left are halved three times, and the eight
   totals are added from zero. -/
module

public import proofs.«01_k».proof.Proof.Gen.KernelIdeal.Frame
public import Idealize.ShloMosaic.Lib.Pointwise.Tactic

@[expose] public section

set_option maxRecDepth 16384

noncomputable section

namespace Cert.Proof.Chunks

open Idealize.ShloMosaic Cert.KernelIdeal Cert.KernelIdeal.Gen

/-- Eight rows lie in a piece of 640 rows at any offset that leaves room for them. -/
theorem slices8 {o : Nat} (h : o + 8 ≤ 640) : S640x1024.Slices ![o, 0] S8x1024 := by
  refine ⟨rfl, fun a => ?_⟩
  match a with
  | ⟨0, _⟩ => exact h
  | ⟨1, _⟩ => exact le_refl 1024

/-- A piece of 640 rows lies in the block at any offset that leaves room for it. -/
theorem slices640 {o : Nat} (h : o + 640 ≤ 5120) : S5120x1024.Slices ![o, 0] S640x1024 := by
  refine ⟨rfl, fun a => ?_⟩
  match a with
  | ⟨0, _⟩ => exact h
  | ⟨1, _⟩ => exact le_refl 1024

section
variable {F : FTy → Type} [FloatOps F]

/-- The groups of eight rows `0` to `n` of a piece, added from the left. -/
def chain (w : FVec F S640x1024 .f32) : (n : Nat) → n < 80 → FVec F S8x1024 .f32
  | 0, _ => extractStridedSlice S8x1024 ![0, 0] w (slices8 (by omega))
  | n + 1, h => addf (chain w n (by omega)) (extractStridedSlice S8x1024 ![8 * (n + 1), 0] w (slices8 (by omega)))

/-- Eight rows added into one: the lower half to the upper half, three times. -/
def halve (v : FVec F S8x1024 .f32) : FVec F S1x1024 .f32 :=
  have v4 : FVec F S4x1024 .f32 := addf (extractStridedSlice S4x1024 ![0, 0] v slices_S8x1024_o0_0_S4x1024) (extractStridedSlice S4x1024 ![4, 0] v slices_S8x1024_o4_0_S4x1024)
  have v2 : FVec F S2x1024 .f32 := addf (extractStridedSlice S2x1024 ![0, 0] v4 slices_S4x1024_o0_0_S2x1024) (extractStridedSlice S2x1024 ![2, 0] v4 slices_S4x1024_o2_0_S2x1024)
  addf (extractStridedSlice S1x1024 ![0, 0] v2 slices_S2x1024_o0_0_S1x1024) (extractStridedSlice S1x1024 ![1, 0] v2 slices_S2x1024_o1_0_S1x1024)

/-- The totals of the first `n` pieces, added from zero. -/
def total (s : FVec F S5120x1024 .f32) : (n : Nat) → n ≤ 8 → FVec F S1x1024 .f32
  | 0, _ => broadcast S1x1024 (Scalar.ofBits .f32 0x00000000#32)
  | n + 1, h => addf (total s n (by omega))
      (halve (chain (extractStridedSlice S640x1024 ![640 * n, 0] s (slices640 (by omega))) 79 (by omega)))

/-- What the body stores is the total of all eight pieces of its score block. -/
theorem out0_8_eq (x0 x1 : Vec F S5120x3 .f32) (x2 x3 : Vec F S3x1024 .f32) (x4 x5 : Vec F S5120x1 .f32)
    (x6 x7 : Vec F S1x1024 .f32) :
    out0_8 x0 x1 x2 x3 x4 x5 x6 x7
      = View.canon [⟨r0_3, total (k0_pay49 x0 x1 x2 x3 x4 x5 x6 x7) 8 (le_refl 8)⟩] := rfl

end

end Cert.Proof.Chunks
-- ==== Proof.BlockSum.lean ====
/- The total that the first kernel body stores, over the extended reals: the column sums of its score block,
   in whatever order the body adds the rows. -/
module

public import proofs.«01_k».proof.Proof.Chunks
public import Idealize.ShloMosaic.PureOps.Ideal.Laws

@[expose] public section

set_option maxRecDepth 16384

noncomputable section

namespace Cert.Proof.Chunks

open Idealize.ShloMosaic Cert.KernelIdeal Cert.KernelIdeal.Gen

/-- A sum over `n * k` consecutive numbers, `k` at a time. -/
theorem sum_range_blocks {M : Type} [AddCommMonoid M] (f : Nat → M) (k n : Nat) :
    ∑ r ∈ Finset.range (k * n), f r = ∑ i ∈ Finset.range n, ∑ a ∈ Finset.range k, f (k * i + a) := by
  induction n with
  | zero => simp
  | succ n ih => rw [Nat.mul_succ, Finset.sum_range_add, ih, Finset.sum_range_succ]

/-- Column `j` of a block as a function of the row number, zero past the last row. -/
def col {n : Nat} (s : FVec Ideal ⟨2, ![n, 1024]⟩ .f32) (j : Fin 1024) (r : Nat) : EReal :=
  if h : r < n then s (ix2 ⟨r, h⟩ j) else 0

/-- A column read at a row of the block. -/
theorem col_val {n : Nat} (s : FVec Ideal ⟨2, ![n, 1024]⟩ .f32) (j : Fin 1024) (r : Fin n) :
    col s j r.val = s (ix2 r j) := by
  unfold col; rw [dif_pos r.isLt]

/-- Rows cut out of a block at an offset are the block's rows from that offset. -/
theorem col_slice {n k o : Nat} (s : FVec Ideal ⟨2, ![n, 1024]⟩ .f32)
    (h : Shape.Slices ⟨2, ![n, 1024]⟩ ![o, 0] ⟨2, ![k, 1024]⟩) (j : Fin 1024) (r : Nat) (hr : r < k) :
    col (extractStridedSlice ⟨2, ![k, 1024]⟩ ![o, 0] s h) j r = col s j (o + r) := by
  have hn : o + r < n := lt_of_lt_of_le (Nat.add_lt_add_left hr o) (h.2 0)
  unfold col
  rw [dif_pos hr, dif_pos hn]
  unfold extractStridedSlice
  congr 1
  funext a
  match a with
  | ⟨0, _⟩ => rfl
  | ⟨1, _⟩ => exact Fin.ext (Nat.zero_add _)

/-- A column of a sum is the sum of the columns. -/
theorem col_addf {n : Nat} (s t : FVec Ideal ⟨2, ![n, 1024]⟩ .f32) (j : Fin 1024) (r : Nat) :
    col (addf s t) j r = col s j r + col t j r := by
  unfold col
  split
  · rfl
  · exact (add_zero _).symm

/-- The groups of eight rows added up: row `a` holds the rows of the piece that leave the rest `a`. -/
theorem col_chain (w : FVec Ideal S640x1024 .f32) (j : Fin 1024) (a : Nat) (ha : a < 8) :
    ∀ (n : Nat) (h : n < 80), col (chain w n h) j a = ∑ g ∈ Finset.range (n + 1), col w j (8 * g + a)
  | 0, _ => by
    unfold chain
    rw [Finset.sum_range_one, col_slice w _ j a ha]
  | n + 1, h => by
    unfold chain
    rw [Finset.sum_range_succ, col_addf, col_chain w j a ha n (by omega), col_slice w _ j a ha]

/-- Eight rows halved three times are their sum. -/
theorem col_halve (v : FVec Ideal S8x1024 .f32) (j : Fin 1024) :
    col (halve v) j 0 = ∑ a ∈ Finset.range 8, col v j a := by
  unfold halve
  simp only [col_addf, col_slice _ _ j _ (by omega : 0 < 1)]
  simp only [col_slice _ _ j _ (by omega : 0 < 2), col_slice _ _ j _ (by omega : 1 < 2), col_addf, Nat.zero_add, Nat.add_zero]
  simp only [col_slice _ _ j _ (by omega : 0 < 4), col_slice _ _ j _ (by omega : 1 < 4), col_slice _ _ j _ (by omega : 2 < 4), col_slice _ _ j _ (by omega : 3 < 4), col_addf, Nat.zero_add, Nat.add_zero]
  simp only [Finset.sum_range_succ, Finset.sum_range_zero, zero_add]
  ac_rfl

/-- The total of the first `n` pieces is the sum of the block's first `640 * n` rows. -/
theorem col_total (s : FVec Ideal S5120x1024 .f32) (j : Fin 1024) :
    ∀ (n : Nat) (h : n ≤ 8), col (total s n h) j 0 = ∑ r ∈ Finset.range (640 * n), col s j r
  | 0, _ => by
    unfold total col
    rw [dif_pos Nat.one_pos]
    exact Ideal.ofBits_zero_f32
  | n + 1, h => by
    unfold total
    rw [col_addf, col_total s j n (by omega), col_halve, Nat.mul_succ, Finset.sum_range_add]
    congr 1
    refine Eq.trans ?_ (sum_range_blocks (fun x => col s j (640 * n + x)) 8 80).symm
    rw [Finset.sum_comm]
    refine Finset.sum_congr rfl fun a ha => ?_
    rw [col_chain _ j a (Finset.mem_range.mp ha)]
    refine Finset.sum_congr rfl fun g hg => ?_
    have hg' := Finset.mem_range.mp hg
    have ha' := Finset.mem_range.mp ha
    exact col_slice s _ j _ (by omega)

/-- The total of all the pieces is, at each column, the sum of that column. -/
theorem total_apply (s : FVec Ideal S5120x1024 .f32) (i : Fin 1) (j : Fin 1024) :
    total s 8 (le_refl 8) (ix2 i j) = ∑ r : Fin 5120, s (ix2 r j) := by
  have e : i = 0 := Subsingleton.elim _ _
  subst e
  have h := col_total s j 8 (le_refl 8)
  rw [show (640 * 8 : Nat) = 5120 from rfl, Finset.sum_range] at h
  rw [← col_val (total s 8 (le_refl 8)) j 0]
  exact h.trans (Finset.sum_congr rfl fun r _ => col_val s j r)

end Cert.Proof.Chunks
-- ==== Proof.Counts.lean ====
/- What the first region leaves in its output array: at column `j` the sum of the scores of column `j`. -/
module

public import proofs.«01_k».proof.Proof.BlockScore
public import proofs.«01_k».proof.Proof.BlockSum
public import Idealize.ShloMosaic.Lib.Pipeline.ValueKit

@[expose] public section

set_option maxRecDepth 16384

noncomputable section

namespace Cert.Proof.Score

open Idealize.ShloMosaic Idealize.ShloMosaic.TcCoe Cert.KernelIdeal Cert.KernelIdeal.Gen

variable (V : (c : Dev nD) → (b : Ref sig .tc) → Buf (Elt Ideal) ((c : Thread nD τ).loc b))

/-- The squared distance depends only on the coordinates and the squared norms. -/
theorem gap_congr {x x' y y' : Fin 3 → EReal} {p p' q q' : EReal} (hx : ∀ k, x k = x' k) (hy : ∀ k, y k = y' k) (hp : p = p') (hq : q = q') :
    gap x y p q = gap x' y' p' q' := by
  rw [funext hx, funext hy, hp, hq]

/-- The sum of the scores of column `j` over the arrays that the region reads. -/
def column (c : Dev nD) (j : Fin 5120) : EReal :=
  ∑ r : Fin 5120, score
    (gap (fun k => V c main_v2 (ix2 r k)) (fun k => V c main_v8 (ix2 k j)) (V c main_v10 (ix2 r 0)) (V c main_v12 (ix2 0 j)))
    (gap (fun k => V c main_v3 (ix2 r k)) (fun k => V c main_v9 (ix2 k j)) (V c main_v11 (ix2 r 0)) (V c main_v13 (ix2 0 j)))

/-- After the region the output array holds at column `j` the sum of the scores of column `j`. -/
theorem counts (c : Dev nD) : (dat0 V c).arrAt 8 cfg0.N = fun i => column V c (i 1) := by
  have e : ∀ t : Fin cfg0.N, win0_0.index t = ![0, 0] ∧ win0_1.index t = ![0, 0] ∧ win0_2.index t = ![0, t.val] ∧ win0_3.index t = ![0, t.val]
      ∧ win0_4.index t = ![0, 0] ∧ win0_5.index t = ![0, 0] ∧ win0_6.index t = ![0, t.val] ∧ win0_7.index t = ![0, t.val] ∧ win0_8.index t = ![0, t.val] :=
    (by decide +kernel : ∀ t : Fin grid0.N, _)
  refine (dat0 V c).arrAt_eq_of_covers 8 _ (by decide +kernel) fun t hf y => ?_
  obtain ⟨e0, e1, e2, e3, e4, e5, e6, e7, e8⟩ := e t
  blk_simp
  rw [after0_8, Chunks.out0_8_eq]
  obtain ⟨i, j, rfl⟩ : ∃ (i : Fin 1) (j : Fin 1024), y = ix2 i j := ⟨y 0, y 1, funext fun a => by match a with | ⟨0, _⟩ => rfl | ⟨1, _⟩ => rfl⟩
  refine (congrFun (View.canon_unit_zero (by funext a; fin_cases a <;> rfl) _ _) _).trans ?_
  rw [Chunks.total_apply]
  refine Finset.sum_congr rfl fun r _ => ?_
  rw [pay49_apply]
  refine congrArg₂ score (gap_congr (fun k => ?_) (fun k => ?_) ?_ ?_) (gap_congr (fun k => ?_) (fun k => ?_) ?_ ?_)
  all_goals
    blk_simp [iblk0]
    refine congrArg (V c _) ?_
    blk_ext [e0, e1, e2, e3, e4, e5, e6, e7, e8]

end Cert.Proof.Score
-- ==== Proof.RealScore.lean ====
/- The scores over the real numbers: how the kernel takes a distance, and that a padding point scores nothing. -/
module

public import proofs.«01_k».proof.Proof.BlockScore
public import Idealize.ShloMosaic.Lib.IdealHost

@[expose] public section

set_option maxRecDepth 16384

noncomputable section

namespace Cert.Proof.Score

open Idealize.ShloMosaic

/-- The word of two. -/
theorem two_eq : Ideal.ofBits .f32 0x40000000#32 = ((2 : ℝ) : EReal) := by
  simp [Ideal.ofBits, Ideal.ieee]
  rw [← EReal.coe_mul]
  norm_num

/-- The least squared distance is a positive real number. -/
theorem least : ∃ ε : ℝ, 0 < ε ∧ ε ≤ 1 ∧ Ideal.ofBits .f32 0x2B8CBCCC#32 = ε := by
  refine ⟨?_, ?_, ?_, ?_⟩
  rotate_left 3
  · simp [Ideal.ofBits, Ideal.ieee]
    rw [← EReal.coe_mul]
  all_goals norm_num

/-- The scale is a positive real number. -/
theorem scale : ∃ c : ℝ, 0 < c ∧ c ≤ 1 ∧ Ideal.ofBits .f32 0x3C23D70A#32 = c := by
  refine ⟨?_, ?_, ?_, ?_⟩
  rotate_left 3
  · simp [Ideal.ofBits, Ideal.ieee]
    rw [← EReal.coe_mul]
  all_goals norm_num

/-- The sum of products of real numbers is a real number. -/
theorem products_real (x y : Fin 3 → ℝ) : ∑ k, (x k : EReal) * (y k : EReal) = ((∑ k, x k * y k : ℝ) : EReal) := by
  simp only [Fin.sum_univ_three, EReal.coe_add, EReal.coe_mul]

/-- The squared distance of two points over the real numbers. -/
def away (x y : Fin 3 → ℝ) : ℝ := ∑ k, (x k - y k) * (x k - y k)

/-- Of real points with their squared norms the squared distance is that over the real numbers, or the least one. -/
theorem gap_real : ∃ ε : ℝ, 0 < ε ∧ ε ≤ 1 ∧ ∀ x y : Fin 3 → ℝ,
    gap (fun k => (x k : EReal)) (fun k => (y k : EReal)) (∑ k, (x k : EReal) * (x k : EReal)) (∑ k, (y k : EReal) * (y k : EReal))
      = ((max (away x y) ε : ℝ) : EReal) := by
  obtain ⟨ε, h0, h1, he⟩ := least
  refine ⟨ε, h0, h1, fun x y => ?_⟩
  unfold gap away
  rw [products_real, products_real, products_real, two_eq, he, ← EReal.coe_add, ← EReal.coe_mul, ← EReal.coe_sub, ← EReal.coe_strictMono.monotone.map_max]
  congr 2
  simp only [Fin.sum_univ_three]
  ring

/-- The kernel's distance of a positive squared distance is its square root. -/
theorem dist_real (a : ℝ) (h : 0 < a) : dist (a : EReal) = ((√a : ℝ) : EReal) := by
  have e : Ideal.rsqrt (a : EReal) = (((√a)⁻¹ : ℝ) : EReal) := by
    show (if a < 0 then ⊥ else if a = 0 then ⊤ else (((√a)⁻¹ : ℝ) : EReal)) = _
    rw [if_neg (not_lt.mpr h.le), if_neg h.ne']
  unfold dist
  rw [e, ← EReal.coe_mul]
  congr 1
  have hs := Real.sqrt_pos.mpr h
  have hm := Real.mul_self_sqrt h.le
  field_simp
  nlinarith

/-- The reference's distance of a positive squared distance is its square root. -/
theorem sqrt_real (a : ℝ) (h : 0 < a) : Ideal.sqrt (a : EReal) = ((√a : ℝ) : EReal) := by
  show (if a < 0 then ⊥ else ((√a : ℝ) : EReal)) = _
  rw [if_neg (not_lt.mpr h.le)]

/-- Division of real numbers by one that is not zero. -/
theorem div_real (a c : ℝ) (h : 0 < c) : Ideal.div (a : EReal) (c : EReal) = ((a / c : ℝ) : EReal) := by
  unfold Ideal.div
  rw [if_neg (by exact_mod_cast h.ne'), ← EReal.coe_inv, ← EReal.coe_mul, div_eq_mul_inv]

/-- The kernel's score of positive squared distances. -/
theorem score_real : ∃ c : ℝ, 0 < c ∧ c ≤ 1 ∧ Ideal.ofBits .f32 0x3C23D70A#32 = c ∧ ∀ a b : ℝ, 0 < a → 0 < b →
    score (a : EReal) (b : EReal) = ((max (1 - (√a - √b) * (√a - √b) / c) 0 : ℝ) : EReal) := by
  obtain ⟨c, h0, h1, hc⟩ := scale
  refine ⟨c, h0, h1, hc, fun a b ha hb => ?_⟩
  unfold score
  rw [dist_real a ha, dist_real b hb, hc, Ideal.ofBits_zero_f32, Ideal.ofBits_one_f32, ← EReal.coe_sub, ← EReal.coe_mul, div_real _ _ h0,
    ← EReal.coe_one, ← EReal.coe_sub, ← EReal.coe_zero, ← EReal.coe_strictMono.monotone.map_max]

/-- A pair of distances that differ by 1 or more scores nothing. -/
theorem score_far (a b : ℝ) (ha : 0 < a) (hb : 0 < b) (h : √a + 1 ≤ √b) : score (a : EReal) (b : EReal) = 0 := by
  obtain ⟨c, h0, h1, -, hs⟩ := score_real
  rw [hs a b ha hb, ← EReal.coe_zero]
  congr 1
  refine max_eq_right (sub_nonpos.mpr ((one_le_div h0).mpr ?_))
  nlinarith

/-- A padding point (1e6 in the first set, 3e6 in the second) scores nothing with a point within the bound. -/
theorem score_padding (ε : ℝ) (h0 : 0 < ε) (h1 : ε ≤ 1) (x y : Fin 3 → ℝ) (hx : ∀ k, |x k| ≤ 999999) (hy : ∀ k, |y k| ≤ 999999) :
    score ((max (away (fun _ => 1000000) x) ε : ℝ) : EReal) ((max (away (fun _ => 3000000) y) ε : ℝ) : EReal) = 0 := by
  refine score_far _ _ (lt_max_of_lt_right h0) (lt_max_of_lt_right h0) ?_
  have hX : ∀ k, (1000000 - x k) * (1000000 - x k) ≤ 1999999 * 1999999 := fun k => by
    obtain ⟨l, r⟩ := abs_le.mp (hx k)
    nlinarith
  have hY : ∀ k, 2000001 * 2000001 ≤ (3000000 - y k) * (3000000 - y k) := fun k => by
    obtain ⟨l, r⟩ := abs_le.mp (hy k)
    nlinarith
  have l : √(max (away (fun _ => 1000000) x) ε) ≤ 3464100 := by
    refine Real.sqrt_le_iff.mpr ⟨by norm_num, max_le ?_ (by linarith)⟩
    unfold away
    rw [Fin.sum_univ_three]
    linarith [hX 0, hX 1, hX 2]
  have r : 3464103 ≤ √(max (away (fun _ => 3000000) y) ε) := by
    refine Real.le_sqrt_of_sq_le (le_max_of_le_left ?_)
    unfold away
    rw [Fin.sum_univ_three]
    linarith [hY 0, hY 1, hY 2]
  linarith

end Cert.Proof.Score
-- ==== Proof.RefScore.lean ====
/- What the reference computes: the score of every pair of points, the sum of each point's scores, and the numbers of
   the points in the order of those sums. -/
module

public import proofs.«01_k».proof.Proof.BlockScore
public import proofs.«01_k».proof.Proof.Gen.ReferenceIdeal.Run
public import Idealize.ShloMosaic.Lib.Pointwise.Reduce
public import Idealize.ShloMosaic.Lib.Pointwise.ReduceUnfold
public import Idealize.ShloMosaic.Lib.IdealHost

@[expose] public section

set_option maxRecDepth 16384

noncomputable section

namespace Cert.Proof.Reference

open Idealize.ShloMosaic Cert.ReferenceIdeal Cert.ReferenceIdeal.Gen Cert.Proof.Score

/-- The squared norms of the points. -/
def lengths (x : FVec Ideal S5000x3 .f32) : FVec Ideal S5000 .f32 :=
  Host.reduceAdd (mulf x x) (constant S_ .f32 0x00000000#32) reducesTo_S5000x3_S5000_d1 h_S_

/-- The distances of every two points. -/
def distances (x : FVec Ideal S5000x3 .f32) : FVec Ideal S5000x5000 .f32 :=
  Host.sqrt (maximumf
    (subf
      (addf (broadcastInDim S5000x5000 ![0, 1] bcast_S5000x1_S5000x5000_0_1 (broadcastInDim S5000x1 ![0] bcast_S5000_S5000x1_0 (lengths x)))
        (broadcastInDim S5000x5000 ![0, 1] bcast_S1x5000_S5000x5000_0_1 (broadcastInDim S1x5000 ![1] bcast_S5000_S1x5000_1 (lengths x))))
      (mulf (broadcastInDim S5000x5000 ![] bcast_S_S5000x5000 (constant S_ .f32 0x40000000#32))
        (Host.dotGeneral dot_S5000x3_S3x5000_S5000x5000_1_0_0_1_n_n none x (transpose S3x5000 [1, 0] x transposes_S5000x3_S3x5000_1_0))))
    (broadcastInDim S5000x5000 ![] bcast_S_S5000x5000 (constant S_ .f32 0x2B8CBCCC#32)))

/-- The scores of every two points. -/
def scores (x y : FVec Ideal S5000x3 .f32) : FVec Ideal S5000x5000 .f32 :=
  maximumf
    (subf (broadcastInDim S5000x5000 ![] bcast_S_S5000x5000 (constant S_ .f32 0x3F800000#32))
      (Host.divf (mulf (Host.absf (subf (distances x) (distances y))) (Host.absf (subf (distances x) (distances y))))
        (broadcastInDim S5000x5000 ![] bcast_S_S5000x5000 (constant S_ .f32 0x3C23D70A#32))))
    (broadcastInDim S5000x5000 ![] bcast_S_S5000x5000 (constant S_ .f32 0x00000000#32))

/-- The sum of each point's scores. -/
def sums (x y : FVec Ideal S5000x3 .f32) : FVec Ideal S5000 .f32 :=
  Host.reduceAdd (scores x y) (constant S_ .f32 0x00000000#32) reducesTo_S5000x5000_S5000_d1 h_S_

/-- The reference's result is the numbers of the points in the order of the sums. -/
theorem result_eq (m : (ℓ : Loc nD τ sig) → Buf (Elt Ideal) ℓ) (c : Dev nD) :
    Cert.ReferenceIdeal.Value.res_main_indices m c
      = (Host.topK S1500 0 (FloatOps.cmpfTotal .gt) (sums (m ((c.tc : Thread nD τ).loc main_arg0)) (m ((c.tc : Thread nD τ).loc main_arg1)))
          sliceFits_S5000_S1500).2 := rfl

/-- The squared norm of point `i`. -/
theorem lengths_apply (x : FVec Ideal S5000x3 .f32) (i : Fin 5000) : lengths x (ix1 i) = ∑ k : Fin 3, x (ix2 i k) * x (ix2 i k) := by
  unfold lengths
  pointwise

/-- The distance of points `i` and `j`. -/
theorem distances_apply (x : FVec Ideal S5000x3 .f32) (i j : Fin 5000) :
    distances x (ix2 i j) = Ideal.sqrt (gap (fun k => x (ix2 i k)) (fun k => x (ix2 j k)) (lengths x (ix1 i)) (lengths x (ix1 j))) := by
  unfold distances
  pointwise
  unfold gap
  refine congrArg (fun z => Ideal.sqrt (max (lengths x (ix1 i) + lengths x (ix1 j) - Ideal.ofBits .f32 0x40000000#32 * z) (Ideal.ofBits .f32 0x2B8CBCCC#32))) ?_
  refine (Ideal.matmul_plain_apply (φ₁ := .f32) (φ₂ := .f32) none x _ (fun _ => 0) i j).trans ?_
  refine (zero_add _).trans (Finset.sum_congr rfl fun k _ => congrArg (x (ix2 i k) * ·) ?_)
  pointwise

/-- The score of points `i` and `j`. -/
theorem scores_apply (x y : FVec Ideal S5000x3 .f32) (i j : Fin 5000) :
    scores x y (ix2 i j)
      = max (1 - Ideal.div
          (max (distances x (ix2 i j) - distances y (ix2 i j)) (-(distances x (ix2 i j) - distances y (ix2 i j)))
            * max (distances x (ix2 i j) - distances y (ix2 i j)) (-(distances x (ix2 i j) - distances y (ix2 i j))))
          (Ideal.ofBits .f32 0x3C23D70A#32)) 0 := by
  unfold scores
  pointwise
  rfl

/-- The sum of the scores of point `i`. -/
theorem sums_apply (x y : FVec Ideal S5000x3 .f32) (i : Fin 5000) : sums x y (ix1 i) = ∑ j : Fin 5000, scores x y (ix2 i j) := by
  unfold sums
  pointwise

end Cert.Proof.Reference
-- ==== Proof.Entry.lean ====
/- The arrays at the first region's entry: the points with the padding after them, their transposes and squared norms. -/
module

public import proofs.«01_k».proof.Proof.Gen.KernelIdeal.Frame
public import Idealize.ShloMosaic.Lib.Pointwise.Tactic
public import Idealize.ShloMosaic.Lib.Pointwise.Reduce
public import Idealize.ShloMosaic.Lib.Pointwise.ReduceUnfold
public import Idealize.ShloMosaic.Lib.Pointwise.Select
public import Idealize.ShloMosaic.Lib.IdealHost

@[expose] public section

set_option maxRecDepth 16384

noncomputable section

namespace Cert.Proof.Score

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg)

/-- Coordinate `k` of point `r`, the padding after the points being the word `b`. -/
def padded (b : BitVec 32) (x : FVec Ideal S5000x3 .f32) (r : Fin 5120) (k : Fin 3) : EReal :=
  if h : r.val < 5000 then x (ix2 ⟨r.val, h⟩ k) else Ideal.ofBits .f32 b

/-- The array of the points with the padding after them. -/
def extended (b : BitVec 32) (x : FVec Ideal S5000x3 .f32) : FVec Ideal S5120x3 .f32 :=
  concatenate S5120x3 0 [⟨S5000x3, x⟩, ⟨S120x3, broadcastInDim S120x3 ![] bcast_S_S120x3 (constant S_ .f32 b)⟩] concatenates_S5000x3_S120x3_S5120x3_d0

/-- The squared norms of an array of points. -/
def norms (x : FVec Ideal S5120x3 .f32) : FVec Ideal S5120 .f32 :=
  Host.reduceAdd (mulf x x) (constant S_ .f32 0x00000000#32) reducesTo_S5120x3_S5120_d1 h_S_

/-- The first set of points, padded. -/
theorem entry_v2 (c : Dev nD) : W1 m ρ c (Proc.devRef .tc main_v2) = extended 0x49742400#32 (m ((c : Thread nD τ).loc main_arg0)) := by
  after_results_simp
  rfl

/-- The second set of points, padded. -/
theorem entry_v3 (c : Dev nD) : W1 m ρ c (Proc.devRef .tc main_v3) = extended 0x4A371B00#32 (m ((c : Thread nD τ).loc main_arg1)) := by
  after_results_simp
  rfl

/-- The first set's transpose. -/
theorem entry_v8 (c : Dev nD) : W1 m ρ c (Proc.devRef .tc main_v8)
    = transpose S3x5120 [1, 0] (W1 m ρ c (Proc.devRef .tc main_v2)) transposes_S5120x3_S3x5120_1_0 := by
  after_results_simp

/-- The second set's transpose. -/
theorem entry_v9 (c : Dev nD) : W1 m ρ c (Proc.devRef .tc main_v9)
    = transpose S3x5120 [1, 0] (W1 m ρ c (Proc.devRef .tc main_v3)) transposes_S5120x3_S3x5120_1_0 := by
  after_results_simp

/-- The first set's squared norms as a column. -/
theorem entry_v10 (c : Dev nD) : W1 m ρ c (Proc.devRef .tc main_v10)
    = broadcastInDim S5120x1 ![0] bcast_S5120_S5120x1_0 (norms (W1 m ρ c (Proc.devRef .tc main_v2))) := by
  after_results_simp
  rfl

/-- The second set's squared norms as a column. -/
theorem entry_v11 (c : Dev nD) : W1 m ρ c (Proc.devRef .tc main_v11)
    = broadcastInDim S5120x1 ![0] bcast_S5120_S5120x1_0 (norms (W1 m ρ c (Proc.devRef .tc main_v3))) := by
  after_results_simp
  rfl

/-- The first set's squared norms as a row. -/
theorem entry_v12 (c : Dev nD) : W1 m ρ c (Proc.devRef .tc main_v12)
    = broadcastInDim S1x5120 ![1] bcast_S5120_S1x5120_1 (norms (W1 m ρ c (Proc.devRef .tc main_v2))) := by
  after_results_simp
  rfl

/-- The second set's squared norms as a row. -/
theorem entry_v13 (c : Dev nD) : W1 m ρ c (Proc.devRef .tc main_v13)
    = broadcastInDim S1x5120 ![1] bcast_S5120_S1x5120_1 (norms (W1 m ρ c (Proc.devRef .tc main_v3))) := by
  after_results_simp
  rfl

/-- The padded array at point `r` and coordinate `k`. -/
theorem extended_apply (b : BitVec 32) (x : FVec Ideal S5000x3 .f32) (r : Fin 5120) (k : Fin 3) : extended b x (ix2 r k) = padded b x r k := by
  unfold extended padded
  pointwise

/-- The transposed array. -/
theorem turned_apply (x : FVec Ideal S5120x3 .f32) (k : Fin 3) (r : Fin 5120) :
    transpose S3x5120 [1, 0] x transposes_S5120x3_S3x5120_1_0 (ix2 k r) = x (ix2 r k) := by
  pointwise

/-- The squared norm of point `r`. -/
theorem norms_apply (x : FVec Ideal S5120x3 .f32) (r : Fin 5120) : norms x (ix1 r) = ∑ k : Fin 3, x (ix2 r k) * x (ix2 r k) := by
  unfold norms
  pointwise

/-- The squared norms in a column. -/
theorem tall_apply (x : FVec Ideal S5120 .f32) (r : Fin 5120) : broadcastInDim S5120x1 ![0] bcast_S5120_S5120x1_0 x (ix2 r 0) = x (ix1 r) := by
  pointwise

/-- The squared norms in a row. -/
theorem flat_apply (x : FVec Ideal S5120 .f32) (r : Fin 5120) : broadcastInDim S1x5120 ![1] bcast_S5120_S1x5120_1 x (ix2 0 r) = x (ix1 r) := by
  pointwise

end Cert.Proof.Score
-- ==== Proof.Equation.lean ====
/- The equation: of points within the bound, the kernel's column sums over the padded points are the reference's sums. -/
module

public import proofs.«01_k».proof.Proof.RealScore
public import proofs.«01_k».proof.Proof.RefScore
public import proofs.«01_k».proof.Proof.Entry

@[expose] public section

set_option maxRecDepth 16384

noncomputable section

namespace Cert.Proof.Score

open Idealize.ShloMosaic Cert.KernelIdeal Cert.KernelIdeal.Gen

/-- The word of a million. -/
theorem million_eq : Ideal.ofBits .f32 0x49742400#32 = ((1000000 : ℝ) : EReal) := by
  simp [Ideal.ofBits, Ideal.ieee]
  rw [← EReal.coe_mul]
  norm_num

/-- The word of three million. -/
theorem three_million_eq : Ideal.ofBits .f32 0x4A371B00#32 = ((3000000 : ℝ) : EReal) := by
  simp [Ideal.ofBits, Ideal.ieee]
  rw [← EReal.coe_mul]
  norm_num

/-- Real points with a padding point after them. -/
def extend (b : ℝ) (X : Fin 5000 → Fin 3 → ℝ) (r : Fin 5120) (k : Fin 3) : ℝ := if h : r.val < 5000 then X ⟨r.val, h⟩ k else b

/-- The padded points are the real points with the padding point after them. -/
theorem padded_real (w : BitVec 32) (b : ℝ) (hw : Ideal.ofBits .f32 w = b) (x : FVec Ideal S5000x3 .f32) (X : Fin 5000 → Fin 3 → ℝ)
    (hx : ∀ i k, x (ix2 i k) = X i k) (r : Fin 5120) (k : Fin 3) : padded w x r k = ((extend b X r k : ℝ) : EReal) := by
  unfold padded extend
  by_cases h : r.val < 5000
  · rw [dif_pos h, dif_pos h, hx]
  · rw [dif_neg h, dif_neg h, hw]

/-- The squared distance of two padded points. -/
def near (w : BitVec 32) (x : FVec Ideal S5000x3 .f32) (r j : Fin 5120) : EReal :=
  gap (padded w x r) (padded w x j) (∑ k, padded w x r k * padded w x r k) (∑ k, padded w x j k * padded w x j k)

/-- The distance between two points does not depend on which is first. -/
theorem away_comm (x y : Fin 3 → ℝ) : away x y = away y x := by
  unfold away
  exact Finset.sum_congr rfl fun k _ => by ring

/-- The reference's score of real points. -/
theorem reference_real (x y : FVec Ideal S5000x3 .f32) (X Y : Fin 5000 → Fin 3 → ℝ)
    (hx : ∀ i k, x (ix2 i k) = X i k) (hy : ∀ i k, y (ix2 i k) = Y i k) (ε : ℝ) (h0 : 0 < ε)
    (hg : ∀ x y : Fin 3 → ℝ,
      gap (fun k => (x k : EReal)) (fun k => (y k : EReal)) (∑ k, (x k : EReal) * (x k : EReal)) (∑ k, (y k : EReal) * (y k : EReal))
        = ((max (away x y) ε : ℝ) : EReal)) (i j : Fin 5000) :
    Reference.scores x y (ix2 i j) = score ((max (away (X i) (X j)) ε : ℝ) : EReal) ((max (away (Y i) (Y j)) ε : ℝ) : EReal) := by
  have hd : ∀ (z : FVec Ideal S5000x3 .f32) (Z : Fin 5000 → Fin 3 → ℝ), (∀ i k, z (ix2 i k) = Z i k) →
      Reference.distances z (ix2 i j) = ((√(max (away (Z i) (Z j)) ε) : ℝ) : EReal) := by
    intro z Z hz
    rw [Reference.distances_apply, Reference.lengths_apply, Reference.lengths_apply]
    simp only [hz]
    rw [hg, sqrt_real _ (lt_max_of_lt_right h0)]
  obtain ⟨c, c0, -, hc, hs⟩ := score_real
  rw [hs _ _ (lt_max_of_lt_right h0) (lt_max_of_lt_right h0), Reference.scores_apply, hd x X hx, hd y Y hy, hc,
    ← EReal.coe_sub, ← EReal.coe_neg, ← EReal.coe_strictMono.monotone.map_max, ← EReal.coe_mul, div_real _ _ c0,
    ← EReal.coe_one, ← EReal.coe_sub, ← EReal.coe_zero, ← EReal.coe_strictMono.monotone.map_max]
  congr 4
  exact abs_mul_abs_self _

/-- Of points within the bound, the sum of the kernel's scores of column `j` over the padded points is the reference's sum. -/
theorem columns_eq (x y : FVec Ideal S5000x3 .f32)
    (hx : ∀ i, ∃ v : ℝ, x i = v ∧ |v| ≤ 999999) (hy : ∀ i, ∃ v : ℝ, y i = v ∧ |v| ≤ 999999) (j : Fin 5000) :
    ∑ r : Fin 5120, score (near 0x49742400#32 x r ⟨j.val, by omega⟩) (near 0x4A371B00#32 y r ⟨j.val, by omega⟩)
      = Reference.sums x y (ix1 j) := by
  choose X hX bX using fun (i : Fin 5000) (k : Fin 3) => hx (ix2 i k)
  choose Y hY bY using fun (i : Fin 5000) (k : Fin 3) => hy (ix2 i k)
  obtain ⟨ε, h0, h1, hg⟩ := gap_real
  have hn : ∀ (w : BitVec 32) (b : ℝ) (z : FVec Ideal S5000x3 .f32) (Z : Fin 5000 → Fin 3 → ℝ) (hw : Ideal.ofBits .f32 w = b)
      (hz : ∀ i k, z (ix2 i k) = Z i k) (r s : Fin 5120), near w z r s = ((max (away (extend b Z r) (extend b Z s)) ε : ℝ) : EReal) := by
    intro w b z Z hw hz r s
    unfold near
    rw [funext (padded_real w b hw z Z hz r), funext (padded_real w b hw z Z hz s)]
    exact hg _ _
  have inside : ∀ (b : ℝ) (Z : Fin 5000 → Fin 3 → ℝ) (i : Fin 5000) (h : i.val < 5120), extend b Z ⟨i.val, h⟩ = Z i := by
    intro b Z i h
    funext k
    unfold extend
    rw [dif_pos i.isLt]
  have outside : ∀ (b : ℝ) (Z : Fin 5000 → Fin 3 → ℝ) (r : Fin 5120) (h : 5000 ≤ r.val), extend b Z r = fun _ => b := by
    intro b Z r h
    funext k
    unfold extend
    rw [dif_neg (not_lt.mpr h)]
  simp only [hn _ _ x X million_eq hX, hn _ _ y Y three_million_eq hY, inside]
  rw [Reference.sums_apply]
  refine (Fin.sum_univ_add (a := 5000) (b := 120) _).trans ?_
  refine (congrArg₂ (· + ·) (Finset.sum_congr rfl fun i _ => ?_) (Finset.sum_eq_zero fun i _ => ?_)).trans (add_zero _)
  · rw [reference_real x y X Y hX hY ε h0 hg j i, away_comm (X j), away_comm (Y j)]
    have e : (Fin.castAdd 120 i : Fin (5000 + 120)) = (⟨i.val, by omega⟩ : Fin 5120) := rfl
    rw [e, inside, inside]
  · rw [outside 1000000 X _ (by show 5000 ≤ 5000 + i.val; omega), outside 3000000 Y _ (by show 5000 ≤ 5000 + i.val; omega)]
    exact score_padding ε h0 h1 (X j) (Y j) (bX j) (bY j)

end Cert.Proof.Score
-- ==== Proof.Picks.lean ====
/- What the second kernel body stores: ten chunks of 500 candidates; a chunk adds, at every output place, the
   numbers of those of its candidates whose rank is that place. -/
module

public import proofs.«01_k».proof.Proof.Gen.KernelIdeal.Frame
public import Idealize.ShloMosaic.Lib.Pointwise.Tactic

@[expose] public section

set_option maxRecDepth 16384

noncomputable section

namespace Cert.Proof.Picks

open Idealize.ShloMosaic Cert.KernelIdeal Cert.KernelIdeal.Gen

/-- A chunk of 500 rows lies in the column of 5000 at any offset that leaves room for it. -/
theorem inb500 {o : Nat} (h : o + 500 ≤ 5000) (a : Fin S5000x1.rank) : (![o, 0] : Fin 2 → Nat) a + S500x1.size a ≤ S5000x1.size a := by
  match a with
  | ⟨0, _⟩ => exact h
  | ⟨1, _⟩ => exact le_refl 1

section
variable {F : FTy → Type} [FloatOps F]

/-- The numbers of the candidates of a chunk: the row number from `off`. -/
def numbers (off : Nat) : IVec S500x1 32 :=
  addi (iota .tc S500x1 32 [0] iota_S500x1_d0_w32) (broadcast S500x1 (BitVec.ofNat 32 off))

/-- For every candidate of a chunk (a row) and every count (a column): whether that count is ahead of the
    candidate's, that is greater, or equal and of a smaller number. -/
def ahead (row : FVec F S1x5000 .f32) (c : FVec F S500x1 .f32) (off : Nat) : IVec S500x5000 1 :=
  ori (cmpf .ogt (broadcastTo S500x5000 row broadcasts_S1x5000_S500x5000) (broadcastTo S500x5000 c broadcasts_S500x1_S500x5000))
    (andi (cmpf .oeq (broadcastTo S500x5000 row broadcasts_S1x5000_S500x5000) (broadcastTo S500x5000 c broadcasts_S500x1_S500x5000))
      (cmpi .slt (broadcastTo S500x5000 (iota .tc S1x5000 32 [1] iota_S1x5000_d1_w32) broadcasts_S1x5000_S500x5000)
        (broadcastTo S500x5000 (numbers off) broadcasts_S500x1_S500x5000)))

/-- The rank of every candidate of a chunk: how many counts are ahead of its own. -/
def ranks (row : FVec F S1x5000 .f32) (c : FVec F S500x1 .f32) (off : Nat) : FVec F S500x1 .f32 :=
  matmul dot_S500x5000_S5000x1_S500x1_1_0_0_1_n_n none
    (select (ahead row c off) (broadcast S500x5000 (Scalar.ofBits .f32 0x3F800000#32)) (broadcast S500x5000 (Scalar.ofBits .f32 0x00000000#32)))
    (broadcast S5000x1 (Scalar.ofBits .f32 0x3F800000#32)) (constant S500x1 .f32 0x00000000#32)

/-- At every candidate of a chunk and every output place: the candidate's number if its rank is that place,
    else zero. -/
def marks (row : FVec F S1x5000 .f32) (c : FVec F S500x1 .f32) (off : Nat) : IVec S500x1500 32 :=
  select (cmpf .oeq (broadcastTo S500x1500 (ranks row c off) broadcasts_S500x1_S500x1500)
      (broadcastTo S500x1500 (sitofp .f32 (iota .tc S1x1500 32 [1] iota_S1x1500_d1_w32) : FVec F S1x1500 .f32) broadcasts_S1x1500_S500x1500))
    (broadcastTo S500x1500 (shapeCast S500x1 (numbers off) shapeCasts_S500x1_S500x1) broadcasts_S500x1_S500x1500)
    (broadcast S500x1500 0#32)

/-- What a chunk adds at every output place. -/
def part (row : FVec F S1x5000 .f32) (c : FVec F S500x1 .f32) (off : Nat) : IVec S1x1500 32 :=
  shapeCast S1x1500 (multiReductionI .add [0] S1500 (marks row c off) 0#32 reduces_S500x1500_S1500 rfl) shapeCasts_S1500_S1x1500

/-- What the first `n` chunks have added, from zero. -/
def picked (x0 : Vec F S5000x1 .f32) (x1 : Vec F S1x5000 .f32) : (n : Nat) → n ≤ 10 → IVec S1x1500 32
  | 0, _ => broadcast S1x1500 0#32
  | n + 1, h => addi (picked x0 x1 n (by omega))
      (part (shapeCast S1x5000 (View.ld x1 r1_0) shapeCasts_S1x5000_S1x5000 : FVec F S1x5000 .f32)
        (shapeCast S500x1 (View.ld x0 (Rect.unit (s := S5000x1) ![500 * n, 0] S500x1.size (inb500 (by omega)))) shapeCasts_S500x1_S500x1) (500 * n))

/-- What the body stores is what all ten chunks have added. -/
theorem out1_2_eq (x0 : Vec F S5000x1 .f32) (x1 : Vec F S1x5000 .f32) :
    out1_2 x0 x1 = View.canon [⟨r1_11, picked x0 x1 10 (le_refl 10)⟩] := rfl

end

end Cert.Proof.Picks
-- ==== Proof.RankSum.lean ====
/- What the second kernel body stores, over the extended reals: at output place `k` the sum of the numbers of
   those candidates whose rank is `k`, the rank of a candidate being how many counts are ahead of its own. -/
module

public import proofs.«01_k».proof.Proof.Picks
public import Idealize.ShloMosaic.Lib.Pointwise.Tactic
public import Idealize.ShloMosaic.Lib.Pointwise.Reduce
public import Idealize.ShloMosaic.Lib.Pointwise.ReduceUnfold
public import Idealize.ShloMosaic.Lib.MatmulPlain
public import Idealize.ShloMosaic.Lib.WordCmp
public import Idealize.ShloMosaic.Lib.WordSum
public import Idealize.ShloMosaic.Lib.Pipeline.Value

@[expose] public section

set_option maxRecDepth 16384

noncomputable section

namespace Cert.Proof.Picks

open Idealize.ShloMosaic Cert.KernelIdeal Cert.KernelIdeal.Gen

/-- Number `j` is ahead of number `i` under the counts `f`: its count is greater, or equal and `j` is smaller. -/
def Before (f : Fin 5000 → EReal) (j i : Fin 5000) : Prop := f i < f j ∨ (f j = f i ∧ j < i)

/-- Whether a number is ahead of another is decided classically. -/
instance (f : Fin 5000 → EReal) (j i : Fin 5000) : Decidable (Before f j i) := Classical.propDecidable _

/-- How many numbers are ahead of number `i`. -/
def rank (f : Fin 5000 → EReal) (i : Fin 5000) : Nat := (Finset.univ.filter fun j => Before f j i).card

/-- The number of a chunk's candidate in row `a`. -/
theorem numbers_apply (off : Nat) (a : Fin 500) : numbers off (ix2 a 0) = BitVec.ofNat 32 (off + a.val) := by
  unfold numbers
  pointwise
  rw [Nat.add_comm, BitVec.ofNat_add]
  rfl

/-- The bit of being ahead is the proposition of being ahead. -/
theorem ahead_apply (row : FVec Ideal S1x5000 .f32) (c : FVec Ideal S500x1 .f32) (off : Nat) (a : Fin 500) (h : off + a.val < 5000)
    (hc : c (ix2 a 0) = row (ix2 0 ⟨off + a.val, h⟩)) (b : Fin 5000) :
    ahead row c off (ix2 a b) = BitVec.ofBool (decide (Before (fun j => row (ix2 0 j)) b ⟨off + a.val, h⟩)) := by
  have hb := b.isLt
  unfold ahead
  pointwise
  rw [numbers_apply, WordCmp.cmpi_slt_ofNat (by omega) (by omega), hc, Ideal.cmpf_def, Ideal.cmpf_def]
  unfold Ideal.cmp Before
  simp only [Fin.lt_def]
  by_cases h1 : row (ix2 0 ⟨off + a.val, h⟩) < row (ix2 0 b) <;>
    by_cases h2 : row (ix2 0 b) = row (ix2 0 ⟨off + a.val, h⟩) <;>
    by_cases h3 : b.val < off + a.val <;> simp [h1, h2, h3, IntOp.ori, IntOp.andi]

/-- The rank that a chunk computes for its candidate in row `a` is the candidate's rank, as a real number. -/
theorem ranks_apply (row : FVec Ideal S1x5000 .f32) (c : FVec Ideal S500x1 .f32) (off : Nat) (a : Fin 500) (h : off + a.val < 5000)
    (hc : c (ix2 a 0) = row (ix2 0 ⟨off + a.val, h⟩)) :
    ranks row c off (ix2 a 0) = ((rank (fun j => row (ix2 0 j)) ⟨off + a.val, h⟩ : ℝ) : EReal) := by
  unfold ranks
  refine (Ideal.matmul_plain_apply none _ _ _ a 0).trans ?_
  have e : ∀ b : Fin 5000, select (ahead row c off) (broadcast S500x5000 (Scalar.ofBits .f32 0x3F800000#32 : Ideal .f32)) (broadcast S500x5000 (Scalar.ofBits .f32 0x00000000#32)) (ix2 a b)
      * broadcast S5000x1 (Scalar.ofBits .f32 0x3F800000#32 : Ideal .f32) (ix2 b 0) = if Before (fun j => row (ix2 0 j)) b ⟨off + a.val, h⟩ then (1 : EReal) else 0 := by
    intro b
    pointwise
    rw [ahead_apply row c off a h hc b]
    by_cases hB : Before (fun j => row (ix2 0 j)) b ⟨off + a.val, h⟩ <;> simp [hB, Scalar.select]
  refine (congrArg₂ (· + ·) Ideal.ofBits_zero_f32 (Finset.sum_congr rfl fun b _ => e b)).trans ?_
  rw [zero_add, Finset.sum_boole]
  unfold rank
  simp

/-- What a chunk marks for its candidate in row `a` at output place `k`. -/
theorem marks_apply (row : FVec Ideal S1x5000 .f32) (c : FVec Ideal S500x1 .f32) (off : Nat) (a : Fin 500) (h : off + a.val < 5000)
    (hc : c (ix2 a 0) = row (ix2 0 ⟨off + a.val, h⟩)) (k : Fin 1500) :
    marks row c off (ix2 a k)
      = if rank (fun j => row (ix2 0 j)) ⟨off + a.val, h⟩ = k.val then BitVec.ofNat 32 (off + a.val) else 0 := by
  have hk := k.isLt
  unfold marks
  pointwise
  rw [ranks_apply row c off a h hc, Ideal.cmpf_def, shapeCast_self, numbers_apply]
  have e : (FloatOps.sitofp .f32 (BitVec.ofNat 32 k.val) : Ideal .f32) = ((k.val : ℝ) : EReal) := by
    show (((BitVec.ofNat 32 k.val).toInt : ℝ) : EReal) = _
    rw [WordCmp.toInt_ofNat_of_lt (by omega)]
    norm_cast
  rw [e]
  unfold Ideal.cmp
  by_cases hr : rank (fun j => row (ix2 0 j)) ⟨off + a.val, h⟩ = k.val
  · rw [if_pos hr, hr]
    simp [Scalar.select]
  · rw [if_neg hr]
    simp [Scalar.select, hr]

/-- What a chunk adds at output place `k`. -/
theorem part_apply (row : FVec Ideal S1x5000 .f32) (c : FVec Ideal S500x1 .f32) (off : Nat) (h : off + 500 ≤ 5000)
    (hc : ∀ a : Fin 500, c (ix2 a 0) = row (ix2 0 ⟨off + a.val, by omega⟩)) (k : Fin 1500) :
    part row c off (ix2 0 k)
      = ∑ a : Fin 500, if rank (fun j => row (ix2 0 j)) ⟨off + a.val, by omega⟩ = k.val then BitVec.ofNat 32 (off + a.val) else 0 := by
  unfold part
  refine (shapeCast_addUnit_apply ![1500] _ _ _).trans ?_
  rw [show (fun a : Fin 1 => (ix2 (0 : Fin 1) k) a.succ) = ix1 k from funext fun a => by match a with | ⟨0, _⟩ => rfl]
  pointwise
  refine Eq.trans ?_ (Finset.sum_congr rfl fun a _ => marks_apply row c off a (by omega) (hc a) k)
  rw [Finset.sum_eq_fold]
  rfl

/-- What number `i` contributes at output place `k`: itself if its rank is `k`; nothing past the last number. -/
def share (f : Fin 5000 → EReal) (k : Fin 1500) (i : Nat) : BitVec 32 :=
  if h : i < 5000 then (if rank f ⟨i, h⟩ = k.val then BitVec.ofNat 32 i else 0) else 0

/-- What the first `n` chunks have added at output place `k`, when the column and the row hold the same counts. -/
theorem picked_apply (x0 : Vec Ideal S5000x1 .f32) (x1 : Vec Ideal S1x5000 .f32) (hx : ∀ i : Fin 5000, x0 (ix2 i 0) = x1 (ix2 0 i))
    (k : Fin 1500) : ∀ (n : Nat) (h : n ≤ 10),
    picked x0 x1 n h (ix2 0 k) = ∑ i ∈ Finset.range (500 * n), share (fun j => x1 (ix2 0 j)) k i
  | 0, _ => by
    unfold picked
    simp [broadcast]
  | n + 1, h => by
    have hr : (shapeCast S1x5000 (View.ld x1 r1_0) shapeCasts_S1x5000_S1x5000 : FVec Ideal S1x5000 .f32) = x1 := by
      refine (shapeCast_self (s := S1x5000) _ _).trans ?_
      funext j
      refine congrArg x1 (funext fun a => Fin.ext ?_)
      match a with
      | ⟨0, _⟩ => show 0 + 1 * _ = _; omega
      | ⟨1, _⟩ => show 0 + 1 * _ = _; omega
    unfold picked
    rw [hr]
    refine (congrArg₂ (· + ·) (picked_apply x0 x1 hx k n (by omega)) (part_apply x1 _ (500 * n) (by omega) (fun a => ?_) k)).trans ?_
    · refine (congrFun (shapeCast_self (s := S500x1) _ _) _).trans ?_
      rw [← hx]
      refine congrArg x0 (funext fun b => Fin.ext ?_)
      match b with
      | ⟨0, _⟩ => show 500 * n + 1 * _ = _; rw [Nat.one_mul]; rfl
      | ⟨1, _⟩ => show 0 + 1 * _ = _; rw [Nat.one_mul, Nat.zero_add]; rfl
    · rw [Nat.mul_succ, Finset.sum_range_add, Finset.sum_range (n := 500)]
      refine congrArg (_ + ·) (Finset.sum_congr rfl fun a _ => ?_)
      unfold share
      rw [dif_pos (by omega)]

/-- If exactly one number has rank `k`, the body stores it at output place `k`. -/
theorem picked_eq (x0 : Vec Ideal S5000x1 .f32) (x1 : Vec Ideal S1x5000 .f32) (hx : ∀ i : Fin 5000, x0 (ix2 i 0) = x1 (ix2 0 i))
    (k : Fin 1500) (i : Fin 5000) (hi : ∀ i', rank (fun j => x1 (ix2 0 j)) i' = k.val ↔ i' = i) :
    picked x0 x1 10 (le_refl 10) (ix2 0 k) = BitVec.ofNat 32 i.val := by
  rw [picked_apply x0 x1 hx k 10, Finset.sum_eq_single_of_mem i.val (Finset.mem_range.mpr i.isLt)]
  · unfold share
    rw [dif_pos i.isLt, if_pos ((hi _).mpr rfl)]
  · intro b hb hne
    unfold share
    rw [dif_pos (Finset.mem_range.mp hb), if_neg fun e => hne (congrArg Fin.val ((hi _).mp e))]

end Cert.Proof.Picks
-- ==== Proof.TopIndex.lean ====
/- What the host's stable top-k leaves: at place `k` the one number whose rank is `k`. -/
module

public import proofs.«01_k».proof.Proof.RankSum
public import Idealize.ShloMosaic.Lib.SortFacts
public import Idealize.ShloMosaic.Lib.PlanTiles.StableSort

@[expose] public section

set_option maxRecDepth 16384

noncomputable section

namespace Cert.Proof.Picks

open Idealize.ShloMosaic Cert.KernelIdeal Cert.KernelIdeal.Gen

/-- How many counts are below that of number `i`: a natural number that orders as the counts do. -/
def level (f : Fin 5000 → EReal) (i : Fin 5000) : Nat := (Finset.univ.filter fun j => f j < f i).card

/-- Levels order as the counts do. -/
theorem level_lt_iff (f : Fin 5000 → EReal) (a b : Fin 5000) : level f a < level f b ↔ f a < f b := by
  unfold level
  constructor
  · intro h
    by_contra hn
    exact absurd (Finset.card_le_card (Finset.monotone_filter_right _ fun j _ hj => lt_of_lt_of_le hj (not_lt.mp hn))) (not_le.mpr h)
  · intro h
    refine Finset.card_lt_card ⟨Finset.monotone_filter_right _ fun j _ hj => lt_trans hj h, fun hs => ?_⟩
    have := hs (Finset.mem_filter.mpr ⟨Finset.mem_univ a, h⟩)
    exact absurd (Finset.mem_filter.mp this).2 (lt_irrefl _)

/-- The order of the host's top-k on positions: the greater count first. -/
def first (f : Fin 5000 → EReal) (a b : Fin 5000) : Bool := decide (f b < f a)

/-- The number that the stable sort puts at an earlier place is ahead of the one at a later place. -/
theorem sorted_before (f : Fin 5000 → EReal) (p q : Fin 5000) (h : p < q) :
    Before f (sortedFrom (first f) p) (sortedFrom (first f) q) := by
  have e : first f = fun a b => decide (level f b < level f a) := by
    funext a b
    unfold first
    exact decide_eq_decide.mpr (level_lt_iff f b a).symm
  have hs := PlanTiles.pairwise_stableSort_lex (level f) (· < ·) (List.finRange 5000) (List.pairwise_lt_finRange 5000)
  have hg : ∀ a b : Fin (sortPositions 5000 (first f)).length, a < b →
      PlanTiles.Lex (level f) (· < ·) ((sortPositions 5000 (first f)).get a) ((sortPositions 5000 (first f)).get b) :=
    List.pairwise_iff_get.mp (by unfold sortPositions; rw [e]; exact hs)
  have hl : PlanTiles.Lex (level f) (· < ·) (sortedFrom (first f) p) (sortedFrom (first f) q) :=
    hg _ _ (by simp only [Fin.lt_def, Fin.val_cast]; exact h)
  rcases hl with h1 | ⟨h1, h2⟩
  · exact Or.inl ((level_lt_iff f _ _).mp h1)
  · refine Or.inr ⟨le_antisymm ?_ ?_, h2⟩
    · exact not_lt.mp fun h3 => absurd ((level_lt_iff f _ _).mpr h3) (by omega)
    · exact not_lt.mp fun h3 => absurd ((level_lt_iff f _ _).mpr h3) (by omega)

/-- Of two numbers at most one is ahead of the other. -/
theorem before_asymm (f : Fin 5000 → EReal) (a b : Fin 5000) (h : Before f a b) : ¬ Before f b a := by
  rcases h with h | ⟨h, h'⟩
  · rintro (g | ⟨g, -⟩)
    · exact lt_asymm h g
    · exact absurd g.symm (ne_of_gt h)
  · rintro (g | ⟨-, g⟩)
    · exact absurd h.symm (ne_of_gt g)
    · exact lt_asymm h' g

/-- Being ahead is being at an earlier place of the stable sort. -/
theorem before_sorted_iff (f : Fin 5000 → EReal) (p q : Fin 5000) :
    Before f (sortedFrom (first f) p) (sortedFrom (first f) q) ↔ p < q := by
  refine ⟨fun h => ?_, sorted_before f p q⟩
  rcases lt_trichotomy p q with h1 | h1 | h1
  · exact h1
  · subst h1; exact absurd h (before_asymm f _ _ h)
  · exact absurd h (before_asymm f _ _ (sorted_before f q p h1))

/-- The rank of a number is its place in the stable sort. -/
theorem rank_sorted (f : Fin 5000 → EReal) (q : Fin 5000) : rank f (sortedFrom (first f) q) = q.val := by
  have e : (Finset.univ.filter fun j => Before f j (sortedFrom (first f) q))
      = (Finset.univ.filter fun p : Fin 5000 => p < q).image (sortedFrom (first f)) := by
    ext j
    obtain ⟨p, rfl⟩ := sortedFrom_surjective (first f) j
    simp only [Finset.mem_filter, Finset.mem_univ, true_and, Finset.mem_image, before_sorted_iff]
    refine ⟨fun h => ⟨p, h, rfl⟩, ?_⟩
    rintro ⟨p', h, hp⟩
    rwa [← sortedFrom_injective (first f) hp]
  unfold rank
  rw [e, Finset.card_image_of_injective _ (sortedFrom_injective (first f))]
  refine Eq.trans (congrArg Finset.card ?_) (Fin.card_Iio q)
  ext p
  simp

/-- Exactly one number has rank `q`: the one that the stable sort puts at place `q`. -/
theorem rank_eq_iff (f : Fin 5000 → EReal) (q i : Fin 5000) : rank f i = q.val ↔ i = sortedFrom (first f) q := by
  obtain ⟨p, rfl⟩ := sortedFrom_surjective (first f) i
  rw [rank_sorted]
  exact ⟨fun h => congrArg _ (Fin.ext h), fun h => congrArg Fin.val (sortedFrom_injective (first f) h)⟩

/-- The indices of the host's top-k: at place `k` the number that the stable sort puts there. -/
theorem topK_apply (x : FVec Ideal ⟨1, ![5000]⟩ .f32) (h : Shape.Slices ⟨1, ![5000]⟩ (fun _ => 0) ⟨1, ![1500]⟩) (k : Fin 1500) :
    (Host.topK ⟨1, ![1500]⟩ 0 (FloatOps.cmpfTotal (F := Ideal) (φ := .f32) .gt) x h).2 (ix1 k)
      = BitVec.ofNat 32 (sortedFrom (first fun j => x (ix1 j)) ⟨k.val, by omega⟩).val := by
  have e : ∀ j : (⟨1, ![5000]⟩ : Shape).Idx, ∀ p : Fin 5000, j.along (0 : Fin 1) p = ix1 p := by
    intro j p
    refine (Shape.Idx.along_rank1 j p).trans (funext fun a => ?_)
    match a with | ⟨0, _⟩ => rfl
  have e' : ∀ j : (⟨1, ![5000]⟩ : Shape).Idx, (fun a b : Fin 5000 => FloatOps.cmpfTotal (F := Ideal) (φ := .f32) .gt (x (j.along (0 : Fin 1) a)) (x (j.along (0 : Fin 1) b)) == 1#1) = first fun j => x (ix1 j) := by
    intro j
    funext a b
    rw [e, e]
    simp only [Ideal.cmpfTotal_def]
    unfold first
    by_cases hab : x (ix1 b) < x (ix1 a) <;> simp [Ideal.cmp, CmpDirection.ordered, hab]
  have e3 : ∀ (j : (⟨1, ![5000]⟩ : Shape).Idx) (v : Fin 5000), BitVec.ofNat 32 ((j.along (0 : Fin 1) v) 0).val = BitVec.ofNat 32 v.val := by
    intro j v
    rw [e]
    rfl
  have e2 : ∀ j : (⟨1, ![5000]⟩ : Shape).Idx, (Host.sort2 ⟨1, ![5000]⟩ 0 (fun l r => FloatOps.cmpfTotal (F := Ideal) (φ := .f32) .gt l.1 r.1) x
      (fun i => if hd : 0 < 1 then iotaInDim ⟨1, ![5000]⟩ 32 ⟨0, hd⟩ i else 0#32)).2 j
        = BitVec.ofNat 32 (sortedFrom (first fun j => x (ix1 j)) (j 0)).val := by
    intro j
    show BitVec.ofNat 32 ((j.along (0 : Fin 1) (sortedFrom (fun a b : Fin 5000 => FloatOps.cmpfTotal (F := Ideal) (φ := .f32) .gt (x (j.along (0 : Fin 1) a)) (x (j.along (0 : Fin 1) b)) == 1#1) (j 0))) 0).val = _
    rw [e']
    exact e3 j (sortedFrom (first fun j => x (ix1 j)) (j 0))
  refine (e2 _).trans ?_
  exact congrArg (fun q : Fin 5000 => BitVec.ofNat 32 (sortedFrom (first fun j => x (ix1 j)) q).val) (Fin.ext (Nat.zero_add _))

end Cert.Proof.Picks
-- ==== Proof.Result.lean ====
/- The kernel program's result, read back from its last boundary: at place `k` the number of the point that the
   reference's top-k has there, once the counts are the reference's sums. -/
module

public import proofs.«01_k».proof.Proof.Counts
public import proofs.«01_k».proof.Proof.Equation
public import proofs.«01_k».proof.Proof.TopIndex

@[expose] public section

set_option maxRecDepth 16384

noncomputable section

namespace Cert.Proof.Result

open Idealize.ShloMosaic Idealize.ShloMosaic.TcCoe Idealize.ShloMosaic.StableHlo Cert.KernelIdeal Cert.KernelIdeal.Gen Cert.Proof.Score

variable (m : (ℓ : Loc nD τ sig) → Buf (Elt Ideal) ℓ) (ρ : Dev nD → PrngReg)

/-- Every coordinate is a real number of magnitude at most 999999. -/
def Within (x : FVec Ideal S5000x3 .f32) : Prop := ∀ i, ∃ v : ℝ, x i = v ∧ |v| ≤ 999999

/-- The first region's column sums are those of the padded points. -/
theorem column_entry (c : Dev nD) (j : Fin 5120) :
    column (V1 m ρ) c j = ∑ r : Fin 5120, score (near 0x49742400#32 (m ((c : Thread nD τ).loc main_arg0)) r j)
      (near 0x4A371B00#32 (m ((c : Thread nD τ).loc main_arg1)) r j) := by
  have hg : ∀ (w : BitVec 32) (x : FVec Ideal S5000x3 .f32) (r j : Fin 5120) (a : FVec Ideal S5120x3 .f32) (t : FVec Ideal S3x5120 .f32)
      (p : FVec Ideal S5120x1 .f32) (q : FVec Ideal S1x5120 .f32), a = extended w x → t = transpose S3x5120 [1, 0] a transposes_S5120x3_S3x5120_1_0 →
      p = broadcastInDim S5120x1 ![0] bcast_S5120_S5120x1_0 (norms a) → q = broadcastInDim S1x5120 ![1] bcast_S5120_S1x5120_1 (norms a) →
      gap (fun k => a (ix2 r k)) (fun k => t (ix2 k j)) (p (ix2 r 0)) (q (ix2 0 j)) = near w x r j := by
    intro w x r j a t p q ha ht hp hq
    rw [ht, hp, hq, ha]
    have hn : ∀ i : Fin 5120, norms (extended w x) (ix1 i) = ∑ k, padded w x i k * padded w x i k := fun i =>
      (norms_apply _ i).trans (Finset.sum_congr rfl fun k _ => congrArg₂ (· * ·) (extended_apply w x i k) (extended_apply w x i k))
    exact gap_congr (fun k => extended_apply w x r k) (fun k => (turned_apply _ k j).trans (extended_apply w x j k))
      ((tall_apply _ r).trans (hn r)) ((flat_apply _ j).trans (hn j))
  unfold column
  exact Finset.sum_congr rfl fun r _ => congrArg₂ score
    (hg _ _ r j _ _ _ _ (entry_v2 m ρ c) (entry_v8 m ρ c) (entry_v10 m ρ c) (entry_v12 m ρ c))
    (hg _ _ r j _ _ _ _ (entry_v3 m ρ c) (entry_v9 m ρ c) (entry_v11 m ρ c) (entry_v13 m ρ c))

/-- The row of counts that the second region reads. -/
theorem row_entry (c : Dev nD) (j : Fin 5000) : W3 m ρ c (Proc.devRef .tc main_v15) (ix2 0 j) = column (V1 m ρ) c ⟨j.val, by omega⟩ := by
  have e : W3 m ρ c (Proc.devRef .tc main_v15) = extractStridedSlice S1x5000 ![0, 0] (W2 m ρ c (Proc.devRef .tc main_v14)) slices_S1x5120_S1x5000_0_0 := by
    after_results_simp
  have e2 : W2 m ρ c (Proc.devRef .tc main_v14) = fun i => column (V1 m ρ) c (i 1) := (W2_arr m ρ c 8).trans (counts (V1 m ρ) c)
  rw [e, e2]
  pointwise

/-- The column of counts that the second region reads holds what the row holds. -/
theorem col_entry (c : Dev nD) (j : Fin 5000) : W3 m ρ c (Proc.devRef .tc main_v16) (ix2 j 0) = W3 m ρ c (Proc.devRef .tc main_v15) (ix2 0 j) := by
  have e : W3 m ρ c (Proc.devRef .tc main_v16) = transpose S5000x1 [1, 0] (W3 m ρ c (Proc.devRef .tc main_v15)) transposes_S1x5000_S5000x1_1_0 := by
    after_results_simp
  rw [e]
  pointwise

/-- The second region's output array. -/
theorem chosen (V : (c : Dev nD) → (b : Ref sig .tc) → Buf (Elt Ideal) ((c : Thread nD τ).loc b)) (c : Dev nD) :
    (dat1 V c).arrAt 2 cfg1.N = Picks.picked (V c main_v16) (V c main_v15) 10 (le_refl 10) := by
  have e : ∀ t : Fin cfg1.N, win1_0.index t = ![0, 0] ∧ win1_1.index t = ![0, 0] ∧ win1_2.index t = ![0, 0] :=
    (by decide +kernel : ∀ t : Fin grid1.N, _)
  refine (dat1 V c).arrAt_eq_of_covers 2 _ (by decide +kernel) fun t hf y => ?_
  obtain ⟨e0, e1, e2⟩ := e t
  have h0 : iblk1 V c 0 t = V c main_v16 := by
    funext i
    blk_simp [iblk1]
    refine congrArg (V c main_v16) ?_
    blk_ext [e0]
  have h1 : iblk1 V c 1 t = V c main_v15 := by
    funext i
    blk_simp [iblk1]
    refine congrArg (V c main_v15) ?_
    blk_ext [e1]
  blk_simp
  rw [after1_2, Picks.out1_2_eq, h0, h1]
  refine (congrFun (View.canon_unit_zero (by funext a; fin_cases a <;> rfl) _ _) _).trans ?_
  refine congrArg (Picks.picked (V c main_v16) (V c main_v15) 10 (le_refl 10)) ?_
  blk_ext [e2]

/-- The result array at place `k`: the number of the point that the reference's top-k has there. -/
theorem result_apply (c : Dev nD)
    (hx : Within (m ((c : Thread nD τ).loc main_arg0))) (hy : Within (m ((c : Thread nD τ).loc main_arg1))) (k : Fin 1500) :
    W5 m ρ c (Proc.devRef .tc main_v18) (ix1 k)
      = (Host.topK ⟨1, ![1500]⟩ 0 (FloatOps.cmpfTotal (F := Ideal) (φ := .f32) .gt)
          (Reference.sums (m ((c : Thread nD τ).loc main_arg0)) (m ((c : Thread nD τ).loc main_arg1)))
          Cert.ReferenceIdeal.Gen.facts.sliceFits_S5000_S1500).2 (ix1 k) := by
  have e : W5 m ρ c (Proc.devRef .tc main_v18) = shapeCast S1500 (W4 m ρ c (Proc.devRef .tc main_v17)) shapeCasts_S1x1500_S1500 := by
    after_results_simp
    rfl
  have e2 : W4 m ρ c (Proc.devRef .tc main_v17) = Picks.picked (V3 m ρ c main_v16) (V3 m ρ c main_v15) 10 (le_refl 10) :=
    (W4_arr m ρ c 2).trans (chosen (V3 m ρ) c)
  have hrow : (fun j : Fin 5000 => W3 m ρ c (Proc.devRef .tc main_v15) (ix2 0 j))
      = fun j => Reference.sums (m ((c : Thread nD τ).loc main_arg0)) (m ((c : Thread nD τ).loc main_arg1)) (ix1 j) := by
    funext j
    rw [row_entry, column_entry]
    exact columns_eq _ _ hx hy j
  rw [e, e2, Picks.topK_apply]
  refine Eq.trans ?_ (Picks.picked_eq (V3 m ρ c main_v16) (V3 m ρ c main_v15) (col_entry m ρ c) k
    (sortedFrom (Picks.first fun j => Reference.sums (m ((c : Thread nD τ).loc main_arg0)) (m ((c : Thread nD τ).loc main_arg1)) (ix1 j))
      ⟨k.val, by omega⟩) fun i => ?_)
  · pointwise
  · refine Iff.trans ?_ (Picks.rank_eq_iff _ ⟨k.val, by omega⟩ i)
    exact iff_of_eq (congrArg (fun f => Picks.rank f i = k.val) hrow)

end Cert.Proof.Result
-- ==== Proof.lean ====
/- The claims: the frames of the kernel, of its idealization and of the reference, that the idealization preserves the
   kernel, and that over the extended reals the kernel's result is the reference's wherever every coordinate of the
   arguments is at most 999999 in magnitude. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Bounds
public import proofs.«01_k».proof.Proof.Result

@[expose] public section

noncomputable section

namespace Cert.Proof

open Idealize.ShloMosaic Idealize.SL.Sem

/-- Every execution of the reference ends, with the arguments as launched; it has no counter. -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun _ h => ⟨fun c => (h c).2, funext fun sm => nomatch sm.2⟩)
    (Cert.ReferenceIdeal.Value.run m ρ)

/-- Where the precondition holds the kernel and the reference end with equal results. -/
theorem equal : Cert.algebraic_KernelIdeal_ReferenceIdeal_pre_within_a_million (hKernelIdeal := Cert.KernelIdeal.Gen.facts)
    (hReferenceIdeal := Cert.ReferenceIdeal.Gen.facts) (hPre_within_a_million := Bounds.facts) := by
  intro m ρ m' ρ' hpre hag
  refine ⟨fun c => Cert.KernelIdeal.Gen.W5 m ρ c (Proc.devRef .tc Cert.KernelIdeal.main_v18),
    (θ_run _ _ _).mono (fun _ h => h.1) (Launch.run m ρ), (θ_run _ _ _).mono (fun _ h c => ⟨?_, (h c).2⟩) (Cert.ReferenceIdeal.Value.run m' ρ')⟩
  obtain ⟨hx, hy⟩ := @Bounds.bounded Bounds.facts _ _ (hpre c)
  refine (h c).1.trans (funext fun k => ?_)
  rw [Reference.result_eq, (hag c).1, (hag c).2]
  obtain ⟨i, rfl⟩ : ∃ i : Fin 1500, k = ix1 i := ⟨k 0, funext fun a => by match a with | ⟨0, _⟩ => rfl⟩
  exact (Result.result_apply m ρ c hx hy i).symm

/-- Everything claimed. -/
theorem claim : Cert.Claim := ⟨Cert.Kernel.Gen.facts, Cert.KernelIdeal.Gen.facts, Cert.ReferenceIdeal.Gen.facts, Bounds.facts,
  fun m ρ _ => Cert.Kernel.Gen.frame m ρ,
  fun m ρ _ => Cert.KernelIdeal.Gen.frame m ρ,
  fun m ρ _ => Cert.KernelIdeal.Gen.frame m ρ,
  fun m ρ _ => reference_ends m ρ,
  fun m ρ _ => reference_ends m ρ,
  trivial,
  equal⟩

end Cert.Proof

end
